-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x2048 : Shape := ⟨2, ![8192, 2048]⟩
abbrev S64x2048 : Shape := ⟨2, ![64, 2048]⟩
abbrev S_ : Shape := ⟨0, ![]⟩

class Facts : Prop where

variable [Facts]

def fn {F : FTy → Type} [FloatOps F] (main_arg0 : FVec F S8192x2048 .f32) (main_arg1 : IVec S64x2048 32) (main_arg2 : IVec S_ 32) : IVec S_ 1 :=
  let main_c : IVec S_ 32 := constantI S_ 32 0#32
  let main_v0 : IVec S_ 1 := cmpi .sge main_arg2 main_c
  let main_c_0 : IVec S_ 32 := constantI S_ 32 64#32
  let main_v1 : IVec S_ 1 := cmpi .slt main_arg2 main_c_0
  let main_v2 : IVec S_ 1 := andi main_v0 main_v1
  main_v2
-- ==== Kernel.lean ====
abbrev S8192x2048 : Shape := ⟨2, ![8192, 2048]⟩
abbrev S64x2048 : Shape := ⟨2, ![64, 2048]⟩
abbrev S_ : Shape := ⟨0, ![]⟩
abbrev S1 : Shape := ⟨1, ![1]⟩
abbrev S64x1x2048 : Shape := ⟨3, ![64, 1, 2048]⟩
abbrev S1x1x2048 : Shape := ⟨3, ![1, 1, 2048]⟩
abbrev S1024x2048 : Shape := ⟨2, ![1024, 2048]⟩
abbrev S1x2048 : Shape := ⟨2, ![1, 2048]⟩

abbrev nBuf : Space → Nat
  | .hbm => 5
  | .vmem => 5
  | .smem => 1
  | _ => 0

abbrev bufTy : (tb : Table) → Fin (tcTables nBuf tb) → BufTy
  | .hbm, ⟨0, _⟩ => ⟨S8192x2048, .f32⟩
  | .hbm, ⟨1, _⟩ => ⟨S64x2048, .i32⟩
  | .hbm, ⟨2, _⟩ => ⟨S_, .i32⟩
  | .hbm, ⟨3, _⟩ => ⟨S64x1x2048, .i32⟩
  | .hbm, ⟨4, _⟩ => ⟨S8192x2048, .f32⟩
  | .local _ .vmem, ⟨0, _⟩ => ⟨S1x1x2048, .i32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .smem, ⟨0, _⟩ => ⟨S1, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x2048 : Shape := ⟨2, ![8192, 2048]⟩
abbrev S64x2048 : Shape := ⟨2, ![64, 2048]⟩
abbrev S_ : Shape := ⟨0, ![]⟩
abbrev S1 : Shape := ⟨1, ![1]⟩
abbrev S2048 : Shape := ⟨1, ![2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_c_2 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_4 : Ref sig .tc := ⟨.hbm, 19, rfl⟩
abbrev main_call0_v11 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩

abbrev nD : Nat := 1
abbrev τ : Topo := Topo.v7x

variable {F : FTy → Type} [FloatOps F]
-- ==== Proof.InRange.lean ====
/- The precondition `in_range` read as a bound on the selected row's number, and the bound as what the kernel's launch
   needs: the block of the region map named by the prefetched word lies inside the map. -/
module

public import proofs.«01_k».proof.Defs
public import proofs.«01_k».proof.Proof.Gen.Kernel.Frame
public import proofs.«01_k».proof.Proof.Gen.KernelIdeal.Frame
public import proofs.«01_k».proof.Proof.Gen.Pre_in_range
public import Idealize.ShloMosaic.Lib.Pointwise

@[expose] public section

set_option maxRecDepth 16384

noncomputable section

open Idealize.ShloMosaic Idealize.ShloMosaic.TcCoe

namespace Cert.RowInRange

/-- `in_range` says that the selected row's number, read as an unsigned word, is below 64. -/
theorem lt_of_fn {F : FTy → Type} [FloatOps F] (x : FVec F Pre_in_range.S8192x2048 .f32) (map : IVec Pre_in_range.S64x2048 32)
    (sel : IVec Pre_in_range.S_ 32) (h : Pre_in_range.fn x map sel = fun _ => 1#1) (i : Pre_in_range.S_.Idx) :
    (sel i).toNat < 64 := by
  have both (p q : Bool) : IntOp.andi (BitVec.ofBool p) (BitVec.ofBool q) = BitVec.ofBool (p && q) := by
    cases p <;> cases q <;> decide
  have one (p : Bool) : BitVec.ofBool p = 1#1 ↔ p = true := by cases p <;> decide
  have e := congrFun h i
  simp only [Pre_in_range.fn, andi, cmpi, constantI, IntOp.cmpi, both, one, Bool.and_eq_true] at e
  obtain ⟨hge, hlt⟩ := e
  simp only [BitVec.sle, BitVec.slt, decide_eq_true_eq, BitVec.toInt, BitVec.toNat_ofNat] at hge hlt
  omega

end Cert.RowInRange

namespace Cert.KernelIdeal.RowInRange

open Cert.KernelIdeal Cert.KernelIdeal.Gen

variable {F : FTy → Type} [FloatOps F] (m : (ℓ : Loc nD τ sig) → Buf (Elt F) ℓ)

/-- The argument `selected_param` as a word. -/
abbrev selWord : BitVec 32 := (m (((0 : Dev nD) : Thread nD τ).loc main_arg2) : IVec S_ 32) Idealize.ShloMosaic.ix0
/-- The row number that the word `selected_param` stands for, read unsigned. -/
abbrev sel : ℕ := (selWord m).toNat

/-- The word the launch prefetches is the argument `selected_param`. -/
theorem tbl_apply (i : S1.Idx) : (tbl m 0 : IVec S1 32) i = selWord m := by
  have e : (tbl m 0 : IVec S1 32) = shapeCast S1 (m (((0 : Dev nD) : Thread nD τ).loc main_arg2) : IVec S_ 32) shapeCasts_S_S1 := by
    show V m 0 main_v0 = _
    unfold V; after_results; rfl
  rw [e]; unfold shapeCast
  exact congrArg (m (((0 : Dev nD) : Thread nD τ).loc main_arg2)) (funext fun a => a.elim0)

/-- The region map's window starts at the selected row, at every grid point. -/
theorem start_row (i : grid0.Coords) :
    cc0_transform_0 inb_S1_S1_0 numel1_S1 (tbl m) i = ![sel m, 0, 0] := by
  unfold cc0_transform_0
  have e : (tbl m).at 0 (Rect.unit (s := S1) ![0] S1.size inb_S1_S1_0) numel1_S1 = selWord m := tbl_apply m _
  simp only [e]
  rfl

/-- A row number below 64 puts the window inside the region map. -/
theorem ok (h : sel m < 64) : Ok m := by
  intro i
  refine ⟨fun a => ?_, .inl rfl⟩
  rw [start_row m i]
  match a with
  | ⟨0, _⟩ => show (sel m + 1) * 1 ≤ 64; omega
  | ⟨1, _⟩ => show (0 + 1) * 1 ≤ 1; omega
  | ⟨2, _⟩ => show (0 + 1) * 2048 ≤ 2048; omega

end Cert.KernelIdeal.RowInRange

namespace Cert.Kernel.RowInRange

/-- The same of the kernel as printed: its index map and its host prefix are those of the idealized program, word for
    word, so the statement above is this one. -/
theorem ok {F : FTy → Type} [FloatOps F] (m : (ℓ : Loc Kernel.nD Kernel.τ Kernel.sig) → Buf (Elt F) ℓ)
    (h : ((m (((0 : Dev Kernel.nD) : Thread Kernel.nD Kernel.τ).loc Kernel.main_arg2) : IVec Kernel.S_ 32) Idealize.ShloMosaic.ix0).toNat < 64) :
    Kernel.Gen.Ok m :=
  KernelIdeal.RowInRange.ok m h

end Cert.Kernel.RowInRange

end
-- ==== Proof.KernelValue.lean ====
/- What the kernel computes: one grid point's block, then the whole result array, then the run. The selected row's number
   is taken to be below 64 throughout. -/
module

public import proofs.«01_k».proof.Proof.InRange
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.MaskValue

open Cert.KernelIdeal Cert.KernelIdeal.Gen Cert.KernelIdeal.RowInRange

variable {F : FTy → Type} [FloatOps F]
variable (m : (ℓ : Loc nD τ sig) → Buf (Elt F) ℓ) (ρ : Dev nD → PrngReg)

/-- The data with every row multiplied, entry by entry, by the selected row of the region map read as floats. -/
def masked (hs : sel m < 64) (c : Dev nD) : FVec F S8192x2048 .f32 := fun i =>
  FloatOps.mulf ((m ((c : Thread nD τ).loc main_arg0) : FVec F S8192x2048 .f32) i)
    (FloatOps.sitofp .f32 ((m ((c : Thread nD τ).loc main_arg1) : IVec S64x2048 32) (ix2 ⟨sel m, hs⟩ (i 1))))

/-- One block of the body: each data entry times the float of the map row's entry in its column. -/
theorem block_apply (row : Vec F S1x1x2048 .i32) (x : Vec F S1024x2048 .f32) (j : S1024x2048.Idx) :
    k0_pay1 row x j = FloatOps.mulf (x j) (FloatOps.sitofp .f32 (row (ix3 0 0 (j 1)))) := by
  unfold k0_pay1
  pointwise

/-- What the body leaves in its output block, from any two input blocks: the body's block of them. -/
theorem body_out (c : Dev nD) (i : grid0.Coords) (arg2 : Memref sig .tc .vmem S1x1x2048 .i32) (harg2 : arg2.IsWhole)
    (arg3 : Memref sig .tc .vmem S1024x2048 .f32) (harg3 : arg3.IsWhole) (arg4 : Memref sig .tc .vmem S1024x2048 .f32)
    (harg4 : arg4.IsWhole) (row : Vec F S1x1x2048 .i32) (x : Vec F S1024x2048 .f32) (word : TbBuf0 (F := F) c tbM0_0) :
    out0_A_2 c i arg2 harg2 arg3 harg3 arg4 harg4 row x word = k0_pay1 row x := by
  frame_out

/-- What a grid point leaves in the output block is the body's block of the two blocks it read. -/
theorem outs_eq (hO : Ok m) (c : Dev nD) (t : Fin (cfgM m hO).N) :
    outsAt0 m hO c t = k0_pay1 (iblk m hO c 0 t) (iblk m hO c 1 t) :=
  body_out c _ _ _ _ _ _ _ _ _ _

/-- The map the kernel's window walks is the region map with a unit axis put in the middle. -/
theorem map_eq (c : Dev nD) : (V m c main_v1 : IVec S64x1x2048 32)
    = shapeCast S64x1x2048 (m ((c : Thread nD τ).loc main_arg1) : IVec S64x2048 32) shapeCasts_S64x2048_S64x1x2048 := by
  unfold V; after_results; rfl

/-- The block of the map's window starts at the selected row, at every grid point. -/
theorem map_index (hO : Ok m) (t : Fin (cfgM m hO).N) : ((cfgM m hO).win 0).index t = ![sel m, 0, 0] :=
  start_row m (grid0.coords t)

/-- The map block at any grid point is the selected row. -/
theorem row_apply (hO : Ok m) (hs : sel m < 64) (c : Dev nD) (t : Fin (cfgM m hO).N) (k : Fin 2048) :
    (iblk m hO c 0 t : IVec S1x1x2048 32) (ix3 0 0 k)
      = (m ((c : Thread nD τ).loc main_arg1) : IVec S64x2048 32) (ix2 ⟨sel m, hs⟩ k) := by
  have e (a : Fin 3) : ((((cfgM m hO).win 0).rect t).emb (ix3 0 0 k : S1x1x2048.Idx) a : ℕ)
      = ((cfgM m hO).win 0).index t a * S1x1x2048.size a + ((ix3 0 0 k : S1x1x2048.Idx) a : ℕ) :=
    Pipeline.Window.rect_emb_val ((cfgM m hO).win 0) t (ix3 0 0 k : S1x1x2048.Idx) a rfl
  rw [map_index] at e
  have e' : (((cfgM m hO).win 0).rect t).emb (ix3 0 0 k : S1x1x2048.Idx) = (ix3 ⟨sel m, hs⟩ 0 k : S64x1x2048.Idx) := by
    funext a
    refine Fin.ext ((e a).trans ?_)
    match a with
    | ⟨0, _⟩ => show sel m * 1 + 0 = sel m; omega
    | ⟨1, _⟩ => show 0 * 1 + 0 = 0; omega
    | ⟨2, _⟩ => show 0 * 2048 + k.val = k.val; omega
  show (V m c main_v1 : IVec S64x1x2048 32) ((((cfgM m hO).win 0).rect t).emb (ix3 0 0 k : S1x1x2048.Idx)) = _
  rw [e', map_eq]
  pointwise

/-- The grid's points, numbered by the block of rows they work on. -/
theorem row_index : ∀ t : Fin grid0.N, cc0_transform_1 (grid0.coords t) = ![t.val, 0] ∧ cc0_transform_2 (grid0.coords t) = ![t.val, 0] := by
  decide +kernel

/-- The data block at grid point `t` is the `t`-th run of 1024 rows of the data. -/
theorem data_apply (hO : Ok m) (c : Dev nD) (t : Fin (cfgM m hO).N) (j : S1024x2048.Idx) (i : S8192x2048.Idx)
    (h0 : (i 0 : ℕ) = t.val * 1024 + (j 0 : ℕ)) (h1 : (i 1 : ℕ) = (j 1 : ℕ)) :
    (iblk m hO c 1 t : FVec F S1024x2048 .f32) j = (m ((c : Thread nD τ).loc main_arg0) : FVec F S8192x2048 .f32) i := by
  have e (a : Fin 2) : ((((cfgM m hO).win 1).rect t).emb j a : ℕ)
      = ((cfgM m hO).win 1).index t a * S1024x2048.size a + (j a : ℕ) :=
    Pipeline.Window.rect_emb_val ((cfgM m hO).win 1) t j a rfl
  rw [show ((cfgM m hO).win 1).index t = ![t.val, 0] from (row_index t).1] at e
  have e' : (((cfgM m hO).win 1).rect t).emb j = i := by
    funext a
    refine Fin.ext ((e a).trans ?_)
    match a with
    | ⟨0, _⟩ => exact h0.symm
    | ⟨1, _⟩ => show 0 * 2048 + (j 1 : ℕ) = (i 1 : ℕ); omega
  show (V m c main_arg0 : FVec F S8192x2048 .f32) ((((cfgM m hO).win 1).rect t).emb j) = _
  rw [e', V_main_arg0]

/-- Where entry `j` of the output block of grid point `t` lies in the result array. -/
theorem out_emb (hO : Ok m) (t : Fin (cfgM m hO).N) (j : S1024x2048.Idx) (a : Fin 2) :
    ((((cfgM m hO).win 2).rect t).emb j a : ℕ) = (![t.val, 0] : Fin 2 → ℕ) a * S1024x2048.size a + (j a : ℕ) := by
  rw [← (row_index t).2]
  exact Pipeline.Window.rect_emb_val ((cfgM m hO).win 2) t j a rfl

/-- What grid point `t` writes back is its block of the masked data. -/
theorem flushed_eq (hO : Ok m) (hs : sel m < 64) (c : Dev nD) (t : Fin (cfgM m hO).N) :
    (dats m hO 0 c).flushed 2 t = (((cfgM m hO).win 2).blk t).view.read (Elt F) (masked m hs c) := by
  show ((cfgM m hO).win 2).cut (grid0.coords t) ((dats m hO 0 c).after 2 t) = _
  rw [after0_2, outs_eq]
  funext j
  have key (j : S1024x2048.Idx) (i : S8192x2048.Idx) (h0 : (i 0 : ℕ) = t.val * 1024 + (j 0 : ℕ)) (h1 : (i 1 : ℕ) = (j 1 : ℕ)) :
      k0_pay1 (iblk m hO c 0 t) (iblk m hO c 1 t) j = masked m hs c i := by
    have hj : j 1 = i 1 := Fin.ext h1.symm
    refine (block_apply _ _ j).trans (congrArg₂ FloatOps.mulf (data_apply m hO c t j i h0 h1) (congrArg (FloatOps.sitofp .f32) ?_))
    exact (row_apply m hO hs c t (j 1)).trans (by rw [hj])
  refine key j ((((cfgM m hO).win 2).rect t).emb j) (out_emb m hO t j 0) ((out_emb m hO t j 1).trans ?_)
  show 0 * 2048 + _ = _
  omega

/-- Every entry of the result array lies in the block of some grid point: the one of its run of 1024 rows. -/
theorem cover (hO : Ok m) (i : S8192x2048.Idx) :
    ∃ t : Fin (cfgM m hO).N, ((cfgM m hO).win 2).flush t = true ∧ i ∈ (((cfgM m hO).win 2).blk t).view.set := by
  have h0 : (i 0 : ℕ) < 8192 := (i 0).isLt
  have h1 : (i 1 : ℕ) < 2048 := (i 1).isLt
  have hN : (cfgM m hO).N = 8 := N_0
  let t : Fin (cfgM m hO).N := ⟨(i 0 : ℕ) / 1024, by omega⟩
  refine ⟨t, flush0_2 _ t, ?_⟩
  let j : S1024x2048.Idx := ix2 ⟨(i 0 : ℕ) % 1024, Nat.mod_lt _ (by omega)⟩ ⟨(i 1 : ℕ), h1⟩
  have e : (((cfgM m hO).win 2).rect t).emb j = i := by
    funext a
    refine Fin.ext ((out_emb m hO t j a).trans ?_)
    match a with
    | ⟨0, _⟩ => show (i 0 : ℕ) / 1024 * 1024 + (i 0 : ℕ) % 1024 = (i 0 : ℕ); omega
    | ⟨1, _⟩ => show 0 * 2048 + (i 1 : ℕ) = (i 1 : ℕ); omega
  have hi : i ∈ (((cfgM m hO).win 2).rect t).set := by
    rw [← e]; exact LoadRect.idx_mem (((cfgM m hO).win 2).rect t).toLoadRect j
  exact (ValueKit.mem_set_slice_whole_iff main_v2 (((cfgM m hO).win 2).rect t) i Iff.rfl).mpr hi

/-- The result array ends holding the masked data. -/
theorem result_eq (hO : Ok m) (hs : sel m < 64) (c : Dev nD) : (dats m hO 0 c).arrAt 2 (cfgM m hO).N = masked m hs c :=
  (dats m hO 0 c).arrAt_eq_of_cover 2 (masked m hs c) (fun t _ => flushed_eq m hO hs c t) (cover m hO)

/-- The kernel's run: it ends with the masked data in the result array and the arguments unchanged. -/
theorem run (hs : sel m < 64) : θ_run defs (onTc (τ := τ) (main (F := F))) ⟨m, fun _ => 0, ρ⟩ fun r => ∀ c : Dev nD,
      r.2.mem ((c : Thread nD τ).loc main_v2) = masked m hs c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  have hO : Ok m := ok m hs
  (θ_run defs _ _).mono (fun _ h c => ⟨((h c).1 2).trans (result_eq m hO hs c),
      ((h c).1 1).trans (((dats m hO 0 c).arrAt_in 1 rfl _).trans ((A_eq m hO c 1).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.KernelIdeal.MaskValue

end
-- ==== Proof.ReferenceValue.lean ====
/- What the reference computes: its result array at an index, when the selected row's number is below 64. -/
module

public import proofs.«01_k».proof.Proof.Gen.ReferenceIdeal.Run
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.ReferenceIdeal.MaskValue

open Cert.ReferenceIdeal Cert.ReferenceIdeal.Gen

/-- A row number below 64 is not negative, so the reference's wrap-around of negative numbers leaves it as it is. -/
theorem wrap_eq (s : IVec S_ 32) (hs : (s ix0).toNat < 64) :
    select (cmpi .slt s (constantI S_ 32 0#32)) (addi s (constantI S_ 32 64#32)) s = s := by
  funext i
  obtain rfl : i = ix0 := funext fun a => a.elim0
  show (if IntOp.cmpi .slt (s ix0) 0#32 = 1#1 then _ else s ix0) = s ix0
  refine if_neg fun h => ?_
  have one (p : Bool) : BitVec.ofBool p = 1#1 ↔ p = true := by cases p <;> decide
  simp only [IntOp.cmpi, one, BitVec.slt, decide_eq_true_eq, BitVec.toInt, BitVec.toNat_ofNat] at h
  omega

/-- The number as the one-element vector the reference looks the row up with. -/
abbrev asVec (s : IVec S_ 32) : IVec S1 32 := broadcastInDim S1 ![] bcast_S_S1 s

/-- Its one entry is the number. -/
theorem asVec_apply (s : IVec S_ 32) (k : S1.Idx) : asVec s k = s ix0 :=
  congrArg s (funext fun a => a.elim0)

/-- The reference's bounds check passes on a row number below 64. -/
theorem check_eq (s : IVec S_ 32) (hs : (s ix0).toNat < 64) (i : S_.Idx) :
    Host.reduce IntOp.andi (andi (cmpi .sge (asVec s) (broadcastInDim S1 ![] bcast_S_S1 (constantI S_ 32 0#32)))
      (cmpi .sle (asVec s) (constantI S1 32 63#32))) (constantI S_ 1 1#1) reducesTo_S1_S_d0 h_S_ i = 1#1 := by
  have e : andi (cmpi .sge (asVec s) (broadcastInDim S1 ![] bcast_S_S1 (constantI S_ 32 0#32)))
      (cmpi .sle (asVec s) (constantI S1 32 63#32)) = fun _ => 1#1 := by
    funext k
    show IntOp.andi (IntOp.cmpi .sge (asVec s k) 0#32) (IntOp.cmpi .sle (asVec s k) 63#32) = 1#1
    rw [asVec_apply]
    have both (p q : Bool) : IntOp.andi (BitVec.ofBool p) (BitVec.ofBool q) = BitVec.ofBool (p && q) := by
      cases p <;> cases q <;> decide
    have one (p : Bool) : BitVec.ofBool p = 1#1 ↔ p = true := by cases p <;> decide
    simp only [IntOp.cmpi, both, one, Bool.and_eq_true, BitVec.sle, decide_eq_true_eq, BitVec.toInt, BitVec.toNat_ofNat]
    omega
  exact Host.reduce_andi_one _ _ _ _ _ rfl fun k => congrFun e k

/-- The row looked up under a number below 64 is that row of the map. -/
theorem gather_apply (map : IVec S64x2048 32) (s : IVec S_ 32) (hs : (s ix0).toNat < 64) (j : S2048.Idx) :
    Host.gather gather_S64x2048_S1_S2048_0_0_n_n_0_0_12048 map (asVec s) j = map (ix2 ⟨(s ix0).toNat, hs⟩ (j 0)) := by
  unfold Host.gather
  refine congrArg map (funext fun a => Fin.ext ?_)
  show GatherDims.start _ j (asVec s) a + GatherDims.batchCoord _ j a + GatherDims.offCoord _ j a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S64x2048.rank) ∈ gather_S64x2048_S1_S2048_0_0_n_n_0_0_12048.startIndexMap from List.mem_singleton.mpr rfl), asVec_apply]
    show min (s ix0).toInt.toNat (64 - 1) + 0 + 0 = (s ix0).toNat
    have : (s ix0).toInt = ((s ix0).toNat : ℤ) := by simp only [BitVec.toInt]; omega
    omega
  | ⟨1, _⟩ =>
    unfold GatherDims.start
    rw [dif_neg (show (⟨1, by decide⟩ : Fin S64x2048.rank) ∉ gather_S64x2048_S1_S2048_0_0_n_n_0_0_12048.startIndexMap from fun h => by
      have := List.mem_singleton.mp h
      exact absurd (congrArg Fin.val this) (by decide))]
    show 0 + 0 + _ = (j 0 : ℕ)
    rw [Nat.zero_add]
    rfl

variable {F : FTy → Type} [FloatOps F]
variable (m : (ℓ : Loc nD τ sig) → Buf (Elt F) ℓ) (ρ : Dev nD → PrngReg)

/-- The reference's formula as a function of the three arguments. -/
def formula (x : FVec F S8192x2048 .f32) (map : IVec S64x2048 32) (s : IVec S_ 32) : FVec F S8192x2048 .f32 :=
  let row := select (cmpi .slt s (constantI S_ 32 0#32)) (addi s (constantI S_ 32 64#32)) s
  let inside := Host.reduce IntOp.andi (andi (cmpi .sge (asVec row) (broadcastInDim S1 ![] bcast_S_S1 (constantI S_ 32 0#32)))
    (cmpi .sle (asVec row) (constantI S1 32 63#32))) (constantI S_ 1 1#1) reducesTo_S1_S_d0 h_S_
  let taken := select (broadcastInDim S2048 ![] bcast_S_S2048 inside)
    (Host.gather gather_S64x2048_S1_S2048_0_0_n_n_0_0_12048 map (asVec row)) (broadcastInDim S2048 ![] bcast_S_S2048 (constantI S_ 32 2147483648#32))
  mulf (broadcastInDim S8192x2048 ![0, 1] bcast_S1x2048_S8192x2048_0_1
    (shapeCast S1x2048 (sitofp .f32 taken : FVec F S2048 .f32) shapeCasts_S2048_S1x2048)) x

/-- With a row number below 64 the formula, at an index, is the float of the selected row's entry in that column times
    the data entry. -/
theorem formula_apply (x : FVec F S8192x2048 .f32) (map : IVec S64x2048 32) (s : IVec S_ 32) (hs : (s ix0).toNat < 64)
    (i : S8192x2048.Idx) :
    formula x map s i = FloatOps.mulf (FloatOps.sitofp .f32 (map (ix2 ⟨(s ix0).toNat, hs⟩ (i 1)))) (x i) := by
  have taken (j : S2048.Idx) : select (broadcastInDim S2048 ![] bcast_S_S2048 (Host.reduce IntOp.andi
        (andi (cmpi .sge (asVec s) (broadcastInDim S1 ![] bcast_S_S1 (constantI S_ 32 0#32)))
          (cmpi .sle (asVec s) (constantI S1 32 63#32))) (constantI S_ 1 1#1) reducesTo_S1_S_d0 h_S_))
      (Host.gather gather_S64x2048_S1_S2048_0_0_n_n_0_0_12048 map (asVec s))
      (broadcastInDim S2048 ![] bcast_S_S2048 (constantI S_ 32 2147483648#32)) j = map (ix2 ⟨(s ix0).toNat, hs⟩ (j 0)) := by
    rw [← gather_apply map s hs j]
    exact if_pos (check_eq s hs _)
  unfold formula
  simp only [wrap_eq s hs]
  pointwise [taken]

/-- The reference's run: it ends with the formula in the result array and the arguments unchanged. -/
theorem run : θ_run defs (onTc (τ := τ) (main (F := F))) ⟨m, fun _ => 0, ρ⟩ fun r => ∀ c : Dev nD,
      r.2.mem ((c.tc : Thread nD τ).loc main_v4) = formula (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2⟩) (Value.run m ρ)

end Cert.ReferenceIdeal.MaskValue

end
-- ==== Proof.Equation.lean ====
/- The kernel's result array and the reference's are equal at the ideal instance: at each index both are the product of
   the data entry and the float of the selected row's entry, the factors in the two orders. -/
module

public import proofs.«01_k».proof.Proof.KernelValue
public import proofs.«01_k».proof.Proof.ReferenceValue
public import Idealize.ShloMosaic.PureOps.Ideal

@[expose] public section

noncomputable section

open Idealize.ShloMosaic Idealize.ShloMosaic.TcCoe

namespace Cert.MaskEquation

/-- The reference's formula of the kernel's arguments is the array the kernel ends with. -/
theorem formula_eq_masked (m : (ℓ : Loc KernelIdeal.nD KernelIdeal.τ KernelIdeal.sig) → Buf (Elt Ideal) ℓ)
    (hs : KernelIdeal.RowInRange.sel m < 64) (c : Dev KernelIdeal.nD) :
    ReferenceIdeal.MaskValue.formula (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
    = KernelIdeal.MaskValue.masked m hs c := by
  obtain rfl : c = 0 := Subsingleton.elim _ _
  funext i
  rw [ReferenceIdeal.MaskValue.formula_apply _ _ _ hs i]
  exact mul_comm (G := EReal) _ _

end Cert.MaskEquation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.InRange
public import proofs.«01_k».proof.Proof.KernelValue
public import proofs.«01_k».proof.Proof.ReferenceValue
public import proofs.«01_k».proof.Proof.Equation
public import Idealize.ShloMosaic.Lib.Quiescent

@[expose] public section

noncomputable section

namespace Cert.Proof

open Idealize.ShloMosaic Idealize.SL.Sem

/-- Where `in_range` holds, the row number the kernel selects is below 64. -/
theorem sel_lt (m : (ℓ : Loc Kernel.nD Kernel.τ Kernel.sig) → Buf (Elt Bits) ℓ) (h : Pre_Kernel m) :
    ((m (((0 : Dev Kernel.nD).tc : Thread Kernel.nD Kernel.τ).loc Kernel.main_arg2) : IVec Kernel.S_ 32) Idealize.ShloMosaic.ix0).toNat < 64 :=
  RowInRange.lt_of_fn _ _ _ (h 0) _

/-- Where `in_range` holds, the row number the idealized kernel selects is below 64. -/
theorem sel_lt_ideal (m : (ℓ : Loc KernelIdeal.nD KernelIdeal.τ KernelIdeal.sig) → Buf (Elt Ideal) ℓ) (h : Pre_KernelIdeal m) :
    KernelIdeal.RowInRange.sel m < 64 := RowInRange.lt_of_fn _ _ _ (h 0) _

/-- The kernel, on words, under `in_range`: it terminates without fault, leaves its arguments as they were and every
    counter at zero. -/
theorem kernel_frame : quiescent_Kernel := fun m ρ h =>
  Kernel.Gen.frame m ρ (Kernel.RowInRange.ok m (sel_lt m h))

/-- The same of the kernel read at the ideal instance. -/
theorem kernelIdeal_frame : quiescent_KernelIdeal := fun m ρ h =>
  KernelIdeal.Gen.frame m ρ (KernelIdeal.RowInRange.ok m (sel_lt_ideal m h))

/-- The reference, with no precondition: it terminates, leaves its arguments as they were, and has no counter at all. -/
theorem reference_frame : quiescent_ReferenceIdeal := fun m ρ _ =>
  (θ_run ReferenceIdeal.defs _ _).mono (fun r h => ⟨fun c => (h c).2, sem_eq_zero_of_no_sems (by decide) r.2⟩)
    (ReferenceIdeal.MaskValue.run (F := Ideal) m ρ)

/-- The reference under `in_range`: the statement above, the precondition unused. -/
theorem reference_frame_in_range : quiescent_ReferenceIdeal_pre_in_range := fun m ρ _ => reference_frame m ρ trivial

/-- Under `in_range`, from equal arguments, the idealized kernel and the idealized reference end with equal results:
    every row of the data times the selected row of the region map. -/
theorem kernel_eq_reference : algebraic_KernelIdeal_ReferenceIdeal := by
  intro m g m' g' h agree
  have hs := sel_lt_ideal m h
  refine ⟨fun c => KernelIdeal.MaskValue.masked m hs c, KernelIdeal.MaskValue.run m g hs, ?_⟩
  refine (θ_run ReferenceIdeal.defs _ _).mono (fun _ r c => ⟨(r c).1.trans ?_, (r c).2⟩) (ReferenceIdeal.MaskValue.run m' g')
  rw [(agree c).1, (agree c).2.1, (agree c).2.2]
  exact MaskEquation.formula_eq_masked m hs c

/-- Every claim of the certificate. -/
theorem claim : Cert.Claim :=
  ⟨Kernel.Gen.facts, KernelIdeal.Gen.facts, ReferenceIdeal.Gen.facts, Pre_in_range.Gen.facts,
    kernel_frame, kernelIdeal_frame, reference_frame, reference_frame_in_range, trivial, kernel_eq_reference⟩

end Cert.Proof

end
